-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_query_key [hPre_finite_query_key : Cert.Pre_finite_query_key.Facts] (m : (ℓ : Loc Cert.KernelIdeal.nD Cert.KernelIdeal.τ Cert.KernelIdeal.sig) → Buf (Elt Ideal) ℓ) : Prop :=
  ∀ c : Dev Cert.KernelIdeal.nD,
    (Cert.Pre_finite_query_key.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_query_key [hPre_finite_query_key : Cert.Pre_finite_query_key.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_query_key.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_query_key [hKernelIdeal : Cert.KernelIdeal.Facts] [hPre_finite_query_key : Cert.Pre_finite_query_key.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_query_key m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_query_key [hReferenceIdeal : Cert.ReferenceIdeal.Facts] [hPre_finite_query_key : Cert.Pre_finite_query_key.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_query_key m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_query_key [hKernelIdeal : Cert.KernelIdeal.Facts] [hReferenceIdeal : Cert.ReferenceIdeal.Facts] [hPre_finite_query_key : Cert.Pre_finite_query_key.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_query_key m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_query_key : Cert.Pre_finite_query_key.Facts),
    quiescent_Kernel (hKernel := hKernel)
    ∧ quiescent_KernelIdeal (hKernelIdeal := hKernelIdeal)
    ∧ quiescent_KernelIdeal_pre_finite_query_key (hKernelIdeal := hKernelIdeal) (hPre_finite_query_key := hPre_finite_query_key)
    ∧ quiescent_ReferenceIdeal (hReferenceIdeal := hReferenceIdeal)
    ∧ quiescent_ReferenceIdeal_pre_finite_query_key (hReferenceIdeal := hReferenceIdeal) (hPre_finite_query_key := hPre_finite_query_key)
    ∧ preserves_Kernel_KernelIdeal
    ∧ algebraic_KernelIdeal_ReferenceIdeal_pre_finite_query_key (hKernelIdeal := hKernelIdeal) (hReferenceIdeal := hReferenceIdeal) (hPre_finite_query_key := hPre_finite_query_key)
-- ==== Pre_finite_query_key.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S_ : Shape := ⟨0, ![]⟩
abbrev S2048x1024 : Shape := ⟨2, ![2048, 1024]⟩
abbrev S2048 : Shape := ⟨1, ![2048]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  slices_S3072x1024_S2048x1024_0_0 : S3072x1024.Slices ![0, 0] S2048x1024
  bcast_S_S2048x1024 : S_.BroadcastsInDim S2048x1024 (![] : Fin 0 → Fin S2048x1024.rank)
  reducesTo_S2048x1024_S_d0_1 : S2048x1024.ReducesTo [0, 1] S_
  slices_S3072_S2048_0 : S3072.Slices ![0] S2048
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S2x2048x1024 .f32) (main_arg1 : FVec F S3072x1024 .f32) (main_arg2 : FVec F S3072 .f32) (main_arg3 : FVec F S1024x1024 .f32) (main_arg4 : FVec F S1024 .f32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S2048x1024 .f32 := (extractStridedSlice S2048x1024 ![0, 0] · slices_S3072x1024_S2048x1024_0_0) main_arg1
  let main_v5 : FVec F S2048x1024 .f32 := Host.absf main_v4
  let main_cst_0 : FVec F S_ .f32 := constant S_ .f32 0x7F800000#32
  let main_v6 : FVec F S2048x1024 .f32 := broadcastInDim S2048x1024 ![] bcast_S_S2048x1024 main_cst_0
  let main_v7 : IVec S2048x1024 1 := cmpf .olt main_v5 main_v6
  let main_c_1 : IVec S_ 1 := constantI S_ 1 1#1
  let main_v8 : IVec S_ 1 := (fun x v => Host.reduce IntOp.andi x v reducesTo_S2048x1024_S_d0_1 h_S_) main_v7 main_c_1
  let main_v9 : IVec S_ 1 := andi main_v3 main_v8
  let main_v10 : FVec F S2048 .f32 := (extractStridedSlice S2048 ![0] · slices_S3072_S2048_0) main_arg2
  let main_v11 : FVec F S2048 .f32 := Host.absf main_v10
  let main_cst_2 : FVec F S_ .f32 := constant S_ .f32 0x7F800000#32
  let main_v12 : FVec F S2048 .f32 := broadcastInDim S2048 ![] bcast_S_S2048 main_cst_2
  let main_v13 : IVec S2048 1 := cmpf .olt main_v11 main_v12
  let main_c_3 : IVec S_ 1 := constantI S_ 1 1#1
  let main_v14 : IVec S_ 1 := (fun x v => Host.reduce IntOp.andi x v reducesTo_S2048_S_d0 h_S_) main_v13 main_c_3
  let main_v15 : IVec S_ 1 := andi main_v9 main_v14
  main_v15
-- ==== Kernel.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S4096x1024 : Shape := ⟨2, ![4096, 1024]⟩
abbrev S1x3072 : Shape := ⟨2, ![1, 3072]⟩
abbrev S4096x3072 : Shape := ⟨2, ![4096, 3072]⟩
abbrev S512x1024 : Shape := ⟨2, ![512, 1024]⟩
abbrev S512x3072 : Shape := ⟨2, ![512, 3072]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S2x16x2048x64 : Shape := ⟨4, ![2, 16, 2048, 64]⟩
abbrev S1x1x512x64 : Shape := ⟨4, ![1, 1, 512, 64]⟩
abbrev S1x1x2048x64 : Shape := ⟨4, ![1, 1, 2048, 64]⟩
abbrev S512x64 : Shape := ⟨2, ![512, 64]⟩
abbrev S2048x64 : Shape := ⟨2, ![2048, 64]⟩
abbrev S512x2048 : Shape := ⟨2, ![512, 2048]⟩
abbrev S512 : Shape := ⟨1, ![512]⟩
abbrev S512x1 : Shape := ⟨2, ![512, 1]⟩
abbrev S1x1024 : Shape := ⟨2, ![1, 1024]⟩

abbrev nBuf : Space → Nat
  | .hbm => 24
  | .vmem => 20
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S4096x1024, .f32⟩
  | .hbm, ⟨6, _⟩ => ⟨S1x3072, .f32⟩
  | .hbm, ⟨7, _⟩ => ⟨S4096x3072, .f32⟩
  | .hbm, ⟨8, _⟩ => ⟨S2x2048x3x16x64, .f32⟩
  | .hbm, ⟨9, _⟩ => ⟨S2x2048x1x16x64, .f32⟩
  | .hbm, ⟨10, _⟩ => ⟨S2x2048x16x64, .f32⟩
  | .hbm, ⟨11, _⟩ => ⟨S2x16x2048x64, .f32⟩
  | .hbm, ⟨12, _⟩ => ⟨S2x2048x1x16x64, .f32⟩
  | .hbm, ⟨13, _⟩ => ⟨S2x2048x16x64, .f32⟩
  | .hbm, ⟨14, _⟩ => ⟨S2x16x2048x64, .f32⟩
  | .hbm, ⟨15, _⟩ => ⟨S2x2048x1x16x64, .f32⟩
  | .hbm, ⟨16, _⟩ => ⟨S2x2048x16x64, .f32⟩
  | .hbm, ⟨17, _⟩ => ⟨S2x16x2048x64, .f32⟩
  | .hbm, ⟨18, _⟩ => ⟨S2x16x2048x64, .f32⟩
  | .hbm, ⟨19, _⟩ => ⟨S2x2048x16x64, .f32⟩
  | .hbm, ⟨20, _⟩ => ⟨S4096x1024, .f32⟩
  | .hbm, ⟨21, _⟩ => ⟨S1x1024, .f32⟩
  | .hbm, ⟨22, _⟩ => ⟨S4096x1024, .f32⟩
  | .hbm, ⟨23, _⟩ => ⟨S2x2048x1024, .f32⟩
  | .local _ .vmem, ⟨0, _⟩ => ⟨S512x1024, .f32⟩
  | .local _ .vmem, ⟨1, _⟩ => ⟨S512x1024, .f32⟩
  | .local _ .vmem, ⟨2, _⟩ => ⟨S3072x1024, .f32⟩
  | .local _ .vmem, ⟨3, _⟩ => ⟨S1x3072, .f32⟩
  | .local _ .vmem, ⟨4, _⟩ => ⟨S512x3072, .f32⟩
  | .local _ .vmem, ⟨5, _⟩ => ⟨S512x3072, .f32⟩
  | .local _ .vmem, ⟨6, _⟩ => ⟨S1x1x512x64, .f32⟩
  | .local _ .vmem, ⟨7, _⟩ => ⟨S1x1x512x64, .f32⟩
  | .local _ .vmem, ⟨8, _⟩ => ⟨S1x1x2048x64, .f32⟩
  | .local _ .vmem, ⟨9, _⟩ => ⟨S1x1x2048x64, .f32⟩
  | .local _ .vmem, ⟨10, _⟩ => ⟨S1x1x2048x64, .f32⟩
  | .local _ .vmem, ⟨11, _⟩ => ⟨S1x1x2048x64, .f32⟩
  | .local _ .vmem, ⟨12, _⟩ => ⟨S1x1x512x64, .f32⟩
  | .local _ .vmem, ⟨13, _⟩ => ⟨S1x1x512x64, .f32⟩
  | .local _ .vmem, ⟨14, _⟩ => ⟨S512x1024, .f32⟩
  | .local _ .vmem, ⟨15, _⟩ => ⟨S512x1024, .f32⟩
  | .local _ .vmem, ⟨16, _⟩ => ⟨S1024x1024, .f32⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3072x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x3072 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨3, ![2, 16, 4], ![false, false, false]⟩

def cc1_transform_0 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc1_transform_1 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_2 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc1_transform_3 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage1_0 : Fin 2 → Memref sig .tc .vmem S1x1x512x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, true]

abbrev stage1_1 : Fin 2 → Memref sig .tc .vmem S1x1x2048x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true, false]

abbrev stage1_2 : Fin 2 → Memref sig .tc .vmem S1x1x2048x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, false]

abbrev stage1_3 : Fin 2 → Memref sig .tc .vmem S1x1x512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]
-- ==== ReferenceIdeal.lean ====
abbrev S2x2048x1024 : Shape := ⟨3, ![2, 2048, 1024]⟩
abbrev S3072x1024 : Shape := ⟨2, ![3072, 1024]⟩
abbrev S3072 : Shape := ⟨1, ![3072]⟩
abbrev S1024x1024 : Shape := ⟨2, ![1024, 1024]⟩
abbrev S1024 : Shape := ⟨1, ![1024]⟩
abbrev S1024x3072 : Shape := ⟨2, ![1024, 3072]⟩
abbrev S2x2048x3072 : Shape := ⟨3, ![2, 2048, 3072]⟩
abbrev S1x1x3072 : Shape := ⟨3, ![1, 1, 3072]⟩
abbrev S2x2048x3x16x64 : Shape := ⟨5, ![2, 2048, 3, 16, 64]⟩
abbrev S2x2048x1x16x64 : Shape := ⟨5, ![2, 2048, 1, 16, 64]⟩
abbrev S2x2048x16x64 : Shape := ⟨4, ![2, 2048, 16, 64]⟩
abbrev S_ : Shape := ⟨0, ![]⟩
abbrev S2x16x2048x2048 : Shape := ⟨4, ![2, 16, 2048, 2048]⟩
abbrev S2x16x2048 : Shape := ⟨3, ![2, 16, 2048]⟩
abbrev S2x16x2048x1 : Shape := ⟨4, ![2, 16, 2048, 1]⟩
abbrev S2x16x64x2048 : Shape := ⟨4, ![2, 16, 64, 2048]⟩
abbrev S1x1x1024 : Shape := ⟨3, ![1, 1, 1024]⟩

abbrev nBuf : Space → Nat
  | .hbm => 46
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S3072x1024, .f32⟩
  | .hbm, ⟨2, _⟩ => ⟨S3072, .f32⟩
  | .hbm, ⟨3, _⟩ => ⟨S1024x1024, .f32⟩
  | .hbm, ⟨4, _⟩ => ⟨S1024, .f32⟩
  | .hbm, ⟨5, _⟩ => ⟨S1024x3072, .f32⟩
  | .hbm, ⟨6, _⟩ => ⟨S2x2048x3072, .f32⟩
  | .hbm, ⟨7, _⟩ => ⟨S1x1x3072, .f32⟩
  | .hbm, ⟨8, _⟩ => ⟨S2x2048x3072, .f32⟩
  | .hbm, ⟨9, _⟩ => ⟨S2x2048x3072, .f32⟩
  | .hbm, ⟨10, _⟩ => ⟨S2x2048x3x16x64, .f32⟩
  | .hbm, ⟨11, _⟩ => ⟨S2x2048x1x16x64, .f32⟩
  | .hbm, ⟨12, _⟩ => ⟨S2x2048x16x64, .f32⟩
  | .hbm, ⟨13, _⟩ => ⟨S2x2048x1x16x64, .f32⟩
  | .hbm, ⟨14, _⟩ => ⟨S2x2048x16x64, .f32⟩
  | .hbm, ⟨15, _⟩ => ⟨S2x2048x1x16x64, .f32⟩
  | .hbm, ⟨16, _⟩ => ⟨S2x2048x16x64, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S2x16x2048x2048, .f32⟩
  | .hbm, ⟨22, _⟩ => ⟨S2x16x2048x2048, .f32⟩
  | .hbm, ⟨23, _⟩ => ⟨S2x16x2048x2048, .f32⟩
  | .hbm, ⟨24, _⟩ => ⟨S_, .f32⟩
  | .hbm, ⟨25, _⟩ => ⟨S2x16x2048, .f32⟩
  | .hbm, ⟨26, _⟩ => ⟨S_, .f32⟩
  | .hbm, ⟨27, _⟩ => ⟨S2x16x2048, .f32⟩
  | .hbm, ⟨28, _⟩ => ⟨S2x16x2048, .f32⟩
  | .hbm, ⟨29, _⟩ => ⟨S2x16x2048x1, .f32⟩
  | .hbm, ⟨30, _⟩ => ⟨S2x16x2048x2048, .f32⟩
  | .hbm, ⟨31, _⟩ => ⟨S2x16x2048x2048, .f32⟩
  | .hbm, ⟨32, _⟩ => ⟨S2x16x2048x2048, .f32⟩
  | .hbm, ⟨33, _⟩ => ⟨S_, .f32⟩
  | .hbm, ⟨34, _⟩ => ⟨S2x16x2048, .f32⟩
  | .hbm, ⟨35, _⟩ => ⟨S2x16x2048x1, .f32⟩
  | .hbm, ⟨36, _⟩ => ⟨S2x16x2048x2048, .f32⟩
  | .hbm, ⟨37, _⟩ => ⟨S2x16x2048x2048, .f32⟩
  | .hbm, ⟨38, _⟩ => ⟨S2x16x64x2048, .f32⟩
  | .hbm, ⟨39, _⟩ => ⟨S2x2048x16x64, .f32⟩
  | .hbm, ⟨40, _⟩ => ⟨S2x2048x1024, .f32⟩
  | .hbm, ⟨41, _⟩ => ⟨S1024x1024, .f32⟩
  | .hbm, ⟨42, _⟩ => ⟨S2x2048x1024, .f32⟩
  | .hbm, ⟨43, _⟩ => ⟨S1x1x1024, .f32⟩
  | .hbm, ⟨44, _⟩ => ⟨S2x2048x1024, .f32⟩
  | .hbm, ⟨45, _⟩ => ⟨S2x2048x1024, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩

abbrev nD : Nat := 1
abbrev τ : Topo := Topo.v7x

variable {F : FTy → Type} [FloatOps F]
-- ==== Proof.Run.lean ====
module

public import proofs.«01_k».proof.Proof.Gen.KernelIdeal.Frame

@[expose] public section

set_option maxRecDepth 16384

noncomputable section

/-! # The kernel program's run, with its result array

The generated frame of the idealized kernel says the argument arrays end unchanged; the same launch also tells what the
result array holds, since the last thread state holds every buffer at the last boundary's contents `Gen.W7`. -/

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which unfolds plain
-- definitions in a metavariable's type
set_option backward.isDefEq.respectTransparency.types false in
/-- Every weakly fair execution of the kernel program terminates without a fault, its result array holding the last
    boundary's contents and its argument arrays what they held at launch. -/
theorem kernel_run : θ_run defs (onTc (τ := τ) (main (F := F))) ⟨m, fun _ => 0, ρ⟩ (fun r => ∀ c : Dev nD,
      r.2.mem ((c.tc : Thread nD τ).loc main_v18) = W7 m ρ c (Proc.devRef .tc main_v18)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun _ h _ c =>
      ⟨h c _ (mem_uc main_v18 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.Attn

end
-- ==== Proof.Softmax.lean ====
module

public import Idealize.ShloMosaic.PureOps.Ideal

@[expose] public section

noncomputable section

/-! # The softmax average over the extended reals

The kernel sums the weighted values of a row and divides once, at the end; the reference divides each weight by the row's
total and then sums. The two agree when the row's logits are real: the row's greatest logit is then real, every weight a
positive real, and so is their total, and multiplying by a nonnegative real distributes over any sum of extended reals. The
values averaged may be infinite. -/

namespace Cert.Attn

open Idealize.ShloMosaic

/-- The greatest of a row's entries, at least minus infinity. -/
def top {n : ℕ} (l : Fin n → EReal) : EReal := Finset.univ.fold max ⊥ l

/-- The softmax weight of entry `j` before it is divided by the row's total. -/
def weight {n : ℕ} (l : Fin n → EReal) (j : Fin n) : EReal := Ideal.exp (l j - top l)

/-- A row's total softmax weight. -/
def total {n : ℕ} (l : Fin n → EReal) : EReal := ∑ j, weight l j

/-- The kernel's order of a softmax average of `v`: the weighted sum first, one division at its end. -/
def average {n : ℕ} (l v : Fin n → EReal) : EReal := Ideal.div (∑ j, weight l j * v j) (total l)

/-- The reference's order of a softmax average of `v`: each weight is divided by the total, then the values are summed. -/
def spread {n : ℕ} (l v : Fin n → EReal) : EReal := ∑ j, v j * Ideal.div (weight l j) (total l)

/-- The query-key product of two head vectors, scaled by one eighth. -/
def logit (q k : Fin 64 → EReal) : EReal := (∑ d, q d * k d) * ((1 / 8 : ℝ) : EReal)

/-! ## The real numbers among the extended reals -/

/-- An extended real that is a real number. -/
def IsReal (e : EReal) : Prop := ∃ r : ℝ, e = r

/-- An extended real is a real number when it is neither infinity. -/
theorem IsReal.of_ne {e : EReal} (ht : e ≠ ⊤) (hb : e ≠ ⊥) : IsReal e := ⟨e.toReal, (EReal.coe_toReal ht hb).symm⟩

/-- Sums of two real numbers are real. -/
theorem IsReal.add {a b : EReal} : IsReal a → IsReal b → IsReal (a + b)
  | ⟨r, hr⟩, ⟨s, hs⟩ => ⟨r + s, by rw [hr, hs, EReal.coe_add]⟩

/-- Products of two real numbers are real. -/
theorem IsReal.mul {a b : EReal} : IsReal a → IsReal b → IsReal (a * b)
  | ⟨r, hr⟩, ⟨s, hs⟩ => ⟨r * s, by rw [hr, hs, EReal.coe_mul]⟩

/-- Finite sums of real numbers are real. -/
theorem IsReal.sum {ι : Type*} (s : Finset ι) {f : ι → EReal} (h : ∀ i, IsReal (f i)) : IsReal (∑ i ∈ s, f i) :=
  Finset.sum_induction f IsReal (fun _ _ => IsReal.add) ⟨0, rfl⟩ fun i _ => h i

/-- The logit of two real vectors is real. -/
theorem IsReal.logit {q k : Fin 64 → EReal} (hq : ∀ d, IsReal (q d)) (hk : ∀ d, IsReal (k d)) : IsReal (logit q k) :=
  (IsReal.sum _ fun d => (hq d).mul (hk d)).mul ⟨_, rfl⟩

/-! ## A row of real logits -/

variable {n : ℕ} {l : Fin n → EReal}

/-- The greatest entry of a nonempty row of reals is real. -/
theorem top_isReal (hn : 0 < n) (hl : ∀ j, IsReal (l j)) : IsReal (top l) := by
  refine IsReal.of_ne (ne_of_lt ?_) (ne_of_gt ?_)
  · refine (Finset.fold_max_lt _).2 ⟨bot_lt_top, fun j _ => ?_⟩
    obtain ⟨r, hr⟩ := hl j
    rw [hr]; exact EReal.coe_lt_top r
  · obtain ⟨r, hr⟩ := hl ⟨0, hn⟩
    exact lt_of_lt_of_le (hr ▸ EReal.bot_lt_coe r) ((Finset.le_fold_max _).2 (.inr ⟨⟨0, hn⟩, Finset.mem_univ _, le_rfl⟩))

/-- Every weight of such a row is a positive real. -/
theorem weight_pos (hn : 0 < n) (hl : ∀ j, IsReal (l j)) (j : Fin n) : ∃ r : ℝ, 0 < r ∧ weight l j = r := by
  obtain ⟨M, hM⟩ := top_isReal hn hl
  obtain ⟨r, hr⟩ := hl j
  exact ⟨Real.exp (r - M), Real.exp_pos _, by rw [weight, hM, hr, ← EReal.coe_sub, Ideal.exp_coe]⟩

/-- So is their total. -/
theorem total_pos (hn : 0 < n) (hl : ∀ j, IsReal (l j)) : ∃ r : ℝ, 0 < r ∧ total l = r :=
  Finset.sum_induction_nonempty (weight l) (fun e => ∃ r : ℝ, 0 < r ∧ e = r)
    (fun _ _ ⟨r, hr, er⟩ ⟨s, hs, es⟩ => ⟨r + s, add_pos hr hs, by rw [er, es, EReal.coe_add]⟩)
    ⟨⟨0, hn⟩, Finset.mem_univ _⟩ fun j _ => weight_pos hn hl j

/-- A nonnegative real factor distributes over a sum of extended reals. -/
theorem sum_mul_real {ι : Type*} (s : Finset ι) (f : ι → EReal) {r : ℝ} (hr : 0 ≤ r) :
    (∑ i ∈ s, f i) * (r : EReal) = ∑ i ∈ s, f i * r := by
  classical
  induction s using Finset.induction_on with
  | empty => simp
  | insert i s hi ih =>
    rw [Finset.sum_insert hi, Finset.sum_insert hi, ← ih]
    exact EReal.right_distrib_of_nonneg_of_ne_top (EReal.coe_nonneg.2 hr) (EReal.coe_ne_top r) _ _

/-- THE LAW: over a nonempty row of real logits, dividing at the end is dividing every weight, whatever is averaged. -/
theorem average_eq_spread (hn : 0 < n) (hl : ∀ j, IsReal (l j)) (v : Fin n → EReal) : average l v = spread l v := by
  obtain ⟨S, hS, eS⟩ := total_pos hn hl
  unfold average spread
  rw [eS, Ideal.div_coe hS.ne', sum_mul_real _ _ (one_div_nonneg.2 hS.le)]
  refine Finset.sum_congr rfl fun j _ => ?_
  rw [Ideal.div_coe hS.ne', mul_comm (weight l j), mul_assoc]

/-- WHY THE LOGITS MUST BE REAL: in a row whose logits are all plus infinity, every weight and the total are zero, and the two
    orders average the value minus one to minus and to plus infinity. -/
theorem orders_differ (hn : 0 < n) :
    average (fun _ : Fin n => ⊤) (fun _ => -1) = ⊥ ∧ spread (fun _ : Fin n => ⊤) (fun _ => -1) = ⊤ := by
  have ht : top (fun _ : Fin n => (⊤ : EReal)) = ⊤ :=
    top_le_iff.1 ((Finset.le_fold_max _).2 (.inr ⟨⟨0, hn⟩, Finset.mem_univ _, le_rfl⟩))
  have hw (j : Fin n) : weight (fun _ : Fin n => (⊤ : EReal)) j = 0 := by
    rw [weight, ht, sub_eq_add_neg, EReal.neg_top, EReal.add_bot, Ideal.exp_bot]
  have hs : total (fun _ : Fin n => (⊤ : EReal)) = 0 := Finset.sum_eq_zero fun j _ => hw j
  have hd : Ideal.div 0 0 = ⊥ := by simp [Ideal.div]
  have hv : (-1 : EReal) * ⊥ = ⊤ := by rw [neg_mul, one_mul, EReal.neg_bot]
  constructor
  · simp only [average, hw, hs, zero_mul, Finset.sum_const_zero, hd]
  · simp only [spread, hw, hs, hd, hv]
    refine Finset.sum_induction_nonempty _ (· = ⊤) (fun p q hp hq => ?_) ⟨⟨0, hn⟩, Finset.mem_univ _⟩ fun _ _ => rfl
    rw [hp, hq, EReal.top_add_top]

end Cert.Attn

end
-- ==== Proof.Payload.lean ====
module

public import proofs.«01_k».proof.Proof.Gen.KernelIdeal.Skeleton
public import proofs.«01_k».proof.Proof.Softmax
public import Idealize.ShloMosaic.Lib.Pointwise

@[expose] public section

set_option maxRecDepth 16384

noncomputable section

/-! # What each kernel body computes from the blocks it loads, entry by entry -/

namespace Cert.Attn

open Cert.KernelIdeal Cert.KernelIdeal.Gen
open Idealize.ShloMosaic

/-- The kernel's scale constant is one eighth. -/
theorem scale_const : Ideal.ofBits .f32 0x3E000000#32 = ((1 / 8 : ℝ) : EReal) := by
  simp [Ideal.ofBits, Ideal.ieee, -EReal.coe_mul]; norm_num

/-- The maximum's initial value is minus infinity. -/
theorem bottom_const : Ideal.ofBits .f32 0xFF800000#32 = ⊥ := by
  simp [Ideal.ofBits, Ideal.ieee]

/-- The first linear layer's body at row `i` and column `j`: the row times the weight's row `j`, plus the bias. -/
theorem k0_pay1_at (x : Vec Ideal S512x1024 .f32) (w : Vec Ideal S3072x1024 .f32) (b : Vec Ideal S1x3072 .f32)
    (i : Fin 512) (j : Fin 3072) :
    k0_pay1 x w b (ix2 i j) = (∑ k : Fin 1024, x (ix2 i k) * w (ix2 j k)) + b (ix2 0 j) := by
  pointwise [k0_pay1]

/-- The last linear layer's body at row `i` and column `j`, likewise. -/
theorem k2_pay1_at (x : Vec Ideal S512x1024 .f32) (w : Vec Ideal S1024x1024 .f32) (b : Vec Ideal S1x1024 .f32)
    (i : Fin 512) (j : Fin 1024) :
    k2_pay1 x w b (ix2 i j) = (∑ k : Fin 1024, x (ix2 i k) * w (ix2 j k)) + b (ix2 0 j) := by
  pointwise [k2_pay1]

/-- The attention body at query row `i` and head column `d`: the softmax average of the value column `d` under the
    logits of query row `i`. -/
theorem k1_pay1_at (q : Vec Ideal S1x1x512x64 .f32) (k v : Vec Ideal S1x1x2048x64 .f32) (i : Fin 512) (d : Fin 64) :
    k1_pay1 q k v (ix4 0 0 i d)
      = average (fun j : Fin 2048 => logit (fun e => q (ix4 0 0 i e)) fun e => k (ix4 0 0 j e)) fun j => v (ix4 0 0 j d) := by
  pointwise [k1_pay1]
  rw [scale_const, bottom_const]; rfl

end Cert.Attn

end
-- ==== Proof.Regions.lean ====
module

public import proofs.«01_k».proof.Proof.Gen.KernelIdeal.Frame
public import proofs.«01_k».proof.Proof.Payload
public import Idealize.ShloMosaic.Lib.Pipeline.ValueKit

@[expose] public section

set_option maxRecDepth 16384

noncomputable section

/-! # What each of the three regions leaves in its output array

Each region is read at an arbitrary state `V` of the buffers on its entry. -/

namespace Cert.Attn

open Cert.KernelIdeal Cert.KernelIdeal.Gen
open Idealize.ShloMosaic Idealize.ShloMosaic.TcCoe
open Idealize.SL Idealize.SL.Sem
open Idealize.ShloMosaic.Pipeline

variable (V : (c : Dev nD) → (b : Ref sig .tc) → Buf (Elt Ideal) ((c : Thread nD τ).loc b)) (c : Dev nD)

/-- A linear layer over rows: entry `(i, j)` is row `i` times the weight's row `j`, plus the bias of column `j`. -/
def linear {R K C : ℕ} (x : Vec Ideal ⟨2, ![R, K]⟩ .f32) (w : Vec Ideal ⟨2, ![C, K]⟩ .f32) (b : Vec Ideal ⟨2, ![1, C]⟩ .f32) :
    Vec Ideal ⟨2, ![R, C]⟩ .f32 :=
  fun y => (∑ k : Fin K, x (ix2 (y 0) k) * w (ix2 (y 1) k)) + b (ix2 0 (y 1))

/-- Attention over heads: entry `(b, h, i, d)` is the softmax average of column `d` of head `(b, h)`'s values under the
    logits of its query row `i`. -/
def attention (q k v : Vec Ideal S2x16x2048x64 .f32) : Vec Ideal S2x16x2048x64 .f32 :=
  fun y => average (fun j : Fin 2048 => logit (fun e => q (ix4 (y 0) (y 1) (y 2) e)) fun e => k (ix4 (y 0) (y 1) j e))
    fun j => v (ix4 (y 0) (y 1) j (y 3))

/-! ## Region 0: a linear layer, 512 rows a point -/

/-- The rows' window is at the block of its grid point; -/
theorem index0_0 : ∀ t : Fin cfg0.N, win0_0.index t = ![(grid0.coords t 0).val, 0] := (by decide +kernel : ∀ t : Fin grid0.N, _)
/-- the weight's stays at its one block, -/
theorem index0_1 : ∀ t : Fin cfg0.N, win0_1.index t = ![0, 0] := (by decide +kernel : ∀ t : Fin grid0.N, _)
/-- as does the bias's; -/
theorem index0_2 : ∀ t : Fin cfg0.N, win0_2.index t = ![0, 0] := (by decide +kernel : ∀ t : Fin grid0.N, _)
/-- the output's moves with the rows'. -/
theorem index0_3 : ∀ t : Fin cfg0.N, win0_3.index t = ![(grid0.coords t 0).val, 0] := (by decide +kernel : ∀ t : Fin grid0.N, _)

/-- Region 0 leaves the linear layer of its rows in its output array. -/
theorem region0 : (dat0 V c).arrAt 3 cfg0.N = linear (V c main_v0) (V c main_arg1) (V c main_v1) := by
  refine (dat0 V c).arrAt_eq_of_covers 3 _ (by decide +kernel) fun t hf y => ?_
  blk_simp
  rw [after0_3]
  unfold out0_3
  frame_out
  idx_vars y
  rw [k0_pay1_at]
  blk_simp [iblk0]
  unfold linear
  refine congrArg₂ (· + ·) (Finset.sum_congr rfl fun k _ => congrArg₂ (· * ·) (congrArg _ ?_) (congrArg _ ?_))
    (congrArg _ ?_) <;> blk_ext [index0_0, index0_1, index0_2, index0_3]

/-! ## Region 2: a linear layer, 512 rows a point -/

/-- The rows' window is at the block of its grid point; -/
theorem index2_0 : ∀ t : Fin cfg2.N, win2_0.index t = ![(grid2.coords t 0).val, 0] := (by decide +kernel : ∀ t : Fin grid2.N, _)
/-- the weight's stays at its one block, -/
theorem index2_1 : ∀ t : Fin cfg2.N, win2_1.index t = ![0, 0] := (by decide +kernel : ∀ t : Fin grid2.N, _)
/-- as does the bias's; -/
theorem index2_2 : ∀ t : Fin cfg2.N, win2_2.index t = ![0, 0] := (by decide +kernel : ∀ t : Fin grid2.N, _)
/-- the output's moves with the rows'. -/
theorem index2_3 : ∀ t : Fin cfg2.N, win2_3.index t = ![(grid2.coords t 0).val, 0] := (by decide +kernel : ∀ t : Fin grid2.N, _)

/-- Region 2 leaves the linear layer of its rows in its output array. -/
theorem region2 : (dat2 V c).arrAt 3 cfg2.N = linear (V c main_v15) (V c main_arg3) (V c main_v16) := by
  refine (dat2 V c).arrAt_eq_of_covers 3 _ (by decide +kernel) fun t hf y => ?_
  blk_simp
  rw [after2_3]
  unfold out2_3
  frame_out
  idx_vars y
  rw [k2_pay1_at]
  blk_simp [iblk2]
  unfold linear
  refine congrArg₂ (· + ·) (Finset.sum_congr rfl fun k _ => congrArg₂ (· * ·) (congrArg _ ?_) (congrArg _ ?_))
    (congrArg _ ?_) <;> blk_ext [index2_0, index2_1, index2_2, index2_3]

/-! ## Region 1: attention, 512 query rows of one head a point -/

/-- The queries' window is at the head and row block of its grid point; -/
theorem index1_0 : ∀ t : Fin cfg1.N, win1_0.index t = ![(grid1.coords t 0).val, (grid1.coords t 1).val, (grid1.coords t 2).val, 0] :=
  (by decide +kernel : ∀ t : Fin grid1.N, _)
/-- the keys' is at the head, -/
theorem index1_1 : ∀ t : Fin cfg1.N, win1_1.index t = ![(grid1.coords t 0).val, (grid1.coords t 1).val, 0, 0] :=
  (by decide +kernel : ∀ t : Fin grid1.N, _)
/-- as is the values'; -/
theorem index1_2 : ∀ t : Fin cfg1.N, win1_2.index t = ![(grid1.coords t 0).val, (grid1.coords t 1).val, 0, 0] :=
  (by decide +kernel : ∀ t : Fin grid1.N, _)
/-- the output's moves with the queries'. -/
theorem index1_3 : ∀ t : Fin cfg1.N, win1_3.index t = ![(grid1.coords t 0).val, (grid1.coords t 1).val, (grid1.coords t 2).val, 0] :=
  (by decide +kernel : ∀ t : Fin grid1.N, _)

/-- Region 1 leaves the attention of its queries, keys and values in its output array. -/
theorem region1 : (dat1 V c).arrAt 3 cfg1.N = attention (V c main_v6) (V c main_v9) (V c main_v12) := by
  refine (dat1 V c).arrAt_eq_of_covers 3 _ (by decide +kernel) fun t hf y => ?_
  blk_simp
  rw [after1_3]
  unfold out1_3
  frame_out
  idx_vars y
  obtain rfl : y0 = 0 := Subsingleton.elim _ _
  obtain rfl : y1 = 0 := Subsingleton.elim _ _
  rw [k1_pay1_at]
  blk_simp [iblk1]
  unfold attention
  refine congrArg₂ average (funext fun j => congrArg₂ logit (funext fun e => congrArg _ ?_) (funext fun e => congrArg _ ?_))
    (funext fun j => congrArg _ ?_) <;> blk_ext [index1_0, index1_1, index1_2, index1_3]

end Cert.Attn

end
-- ==== Proof.Spec.lean ====
module

public import proofs.«01_k».proof.Proof.Softmax
public import Idealize.ShloMosaic.Lib.Pointwise

@[expose] public section

noncomputable section

/-! # Multi-head attention, written over its argument arrays

The closed forms both programs are read as: the first projection, the logits of a head, the head's average of the values in
the kernel's order (`context`), and the last projection over the heads laid side by side. -/

namespace Cert.Attn

open Idealize.ShloMosaic

/-- Column of the first projection that holds coordinate `d` of head `h` of part `p` (query, key, value). -/
def col (p : Fin 3) (h : Fin 16) (d : Fin 64) : Fin 3072 := ⟨p.val * 1024 + h.val * 64 + d.val, by omega⟩

/-- The head a column of the context belongs to. -/
def headOf (e : Fin 1024) : Fin 16 := ⟨e.val / 64, by omega⟩

/-- A column's coordinate within its head. -/
def coordOf (e : Fin 1024) : Fin 64 := ⟨e.val % 64, by omega⟩

section
variable (x : Vec Ideal ⟨3, ![2, 2048, 1024]⟩ .f32) (w : Vec Ideal ⟨2, ![3072, 1024]⟩ .f32) (a : Vec Ideal ⟨1, ![3072]⟩ .f32)

/-- The first projection at sequence position `s` of batch `b`, column `j`. -/
def proj (b : Fin 2) (s : Fin 2048) (j : Fin 3072) : EReal := (∑ k : Fin 1024, x (ix3 b s k) * w (ix2 j k)) + a (ix1 j)

/-- The logit of query position `i` and key position `j` in head `h` of batch `b`. -/
def logits (b : Fin 2) (h : Fin 16) (i j : Fin 2048) : EReal :=
  logit (fun d => proj x w a b i (col 0 h d)) fun d => proj x w a b j (col 1 h d)

/-- The attention output of head `h` at position `i`, coordinate `d`, divided at the end. -/
def context (b : Fin 2) (h : Fin 16) (i : Fin 2048) (d : Fin 64) : EReal :=
  average (logits x w a b h i) fun j => proj x w a b j (col 2 h d)

variable (u : Vec Ideal ⟨2, ![1024, 1024]⟩ .f32) (g : Vec Ideal ⟨1, ![1024]⟩ .f32)

/-- The whole layer's output at position `s` of batch `b`, column `j`. -/
def layer (b : Fin 2) (s : Fin 2048) (j : Fin 1024) : EReal :=
  (∑ e : Fin 1024, context x w a b (headOf e) s (coordOf e) * u (ix2 j e)) + g (ix1 j)

variable {x w a}

/-- A query or key column of the first projection is real where the input and the column's weights and bias are. -/
theorem proj_isReal (hx : ∀ i, IsReal (x i)) (hw : ∀ j k, j.val < 2048 → IsReal (w (ix2 j k)))
    (ha : ∀ j, j.val < 2048 → IsReal (a (ix1 j))) (b : Fin 2) (s : Fin 2048) (j : Fin 3072) (hj : j.val < 2048) :
    IsReal (proj x w a b s j) :=
  (IsReal.sum _ fun k => (hx _).mul (hw j k hj)).add (ha j hj)

/-- So are its logits, which read those columns alone. -/
theorem logits_isReal (hx : ∀ i, IsReal (x i)) (hw : ∀ j k, j.val < 2048 → IsReal (w (ix2 j k)))
    (ha : ∀ j, j.val < 2048 → IsReal (a (ix1 j))) (b : Fin 2) (h : Fin 16) (i j : Fin 2048) :
    IsReal (logits x w a b h i j) :=
  IsReal.logit (fun d => proj_isReal hx hw ha b i _ (by simp only [col]; omega))
    fun d => proj_isReal hx hw ha b j _ (by simp only [col]; omega)

end

end Cert.Attn

end
-- ==== Proof.Host.lean ====
module

public import proofs.«01_k».proof.Proof.Regions
public import proofs.«01_k».proof.Proof.Spec
public import Idealize.ShloMosaic.Lib.StableHlo.ReadAt

@[expose] public section

set_option maxRecDepth 16384

noncomputable section

/-! # What the host operations between the regions leave, entry by entry

Each fact is stated at an arbitrary state `U` of the buffers before the operations. -/

namespace Cert.Attn

open Cert.KernelIdeal Cert.KernelIdeal.Gen
open Idealize.ShloMosaic Idealize.ShloMosaic.TcCoe

variable (U : Valuation τ sig (Elt Ideal))

/-- The row of the flattened arrays that holds sequence position `s` of batch `b`. -/
def row (b : Fin 2) (s : Fin 2048) : Fin 4096 := ⟨b.val * 2048 + s.val, by omega⟩

/-- A row's batch; -/
theorem row_div (b : Fin 2) (s : Fin 2048) : (row b s).val / 2048 = b.val := by unfold row; dsimp only; omega

/-- and its sequence position. -/
theorem row_mod (b : Fin 2) (s : Fin 2048) : (row b s).val % 2048 = s.val := by unfold row; dsimp only; omega

/-- The rows the first linear layer reads are the input's positions, batch by batch. -/
theorem rows_at (b : Fin 2) (s : Fin 2048) (k : Fin 1024) :
    StableHlo.after hostOps0 U (Proc.devRef .tc main_v0) (ix2 (row b s) k) = U (Proc.devRef .tc main_arg0) (ix3 b s k) := by
  after_reads_at
  simp only [row_div, row_mod, Fin.eta]

/-- The first bias, as one row. -/
theorem bias0_at (j : Fin 3072) :
    StableHlo.after hostOps0 U (Proc.devRef .tc main_v1) (ix2 0 j) = U (Proc.devRef .tc main_arg2) (ix1 j) := by
  after_reads_at

/-- The queries are the projection's first part, head by head; -/
theorem queries_at (b : Fin 2) (h : Fin 16) (s : Fin 2048) (d : Fin 64) :
    StableHlo.after hostOps1 U (Proc.devRef .tc main_v6) (ix4 b h s d)
      = U (Proc.devRef .tc main_v2) (ix2 (row b s) (col 0 h d)) := by
  after_reads_at
  exact congrArg _ (congrArg _ (Fin.ext (by simp [col])))

/-- the keys its second; -/
theorem keys_at (b : Fin 2) (h : Fin 16) (s : Fin 2048) (d : Fin 64) :
    StableHlo.after hostOps1 U (Proc.devRef .tc main_v9) (ix4 b h s d)
      = U (Proc.devRef .tc main_v2) (ix2 (row b s) (col 1 h d)) := by
  after_reads_at
  exact congrArg _ (congrArg _ (Fin.ext (by simp [col])))

/-- the values its third. -/
theorem values_at (b : Fin 2) (h : Fin 16) (s : Fin 2048) (d : Fin 64) :
    StableHlo.after hostOps1 U (Proc.devRef .tc main_v12) (ix4 b h s d)
      = U (Proc.devRef .tc main_v2) (ix2 (row b s) (col 2 h d)) := by
  after_reads_at
  exact congrArg _ (congrArg _ (Fin.ext (by simp [col])))

/-- The rows the last linear layer reads are the heads' outputs laid side by side. -/
theorem heads_at (b : Fin 2) (s : Fin 2048) (e : Fin 1024) :
    StableHlo.after hostOps2 U (Proc.devRef .tc main_v15) (ix2 (row b s) e)
      = U (Proc.devRef .tc main_v13) (ix4 b (headOf e) s (coordOf e)) := by
  after_reads_at
  simp only [row_div, row_mod, Fin.eta]; rfl

/-- The last bias, as one row. -/
theorem bias2_at (j : Fin 1024) :
    StableHlo.after hostOps2 U (Proc.devRef .tc main_v16) (ix2 0 j) = U (Proc.devRef .tc main_arg4) (ix1 j) := by
  after_reads_at

/-- The result's positions are the last linear layer's rows. -/
theorem result_at (b : Fin 2) (s : Fin 2048) (j : Fin 1024) :
    StableHlo.after hostOps3 U (Proc.devRef .tc main_v18) (ix3 b s j) = U (Proc.devRef .tc main_v17) (ix2 (row b s) j) := by
  after_reads_at
  rfl

end Cert.Attn

end
-- ==== Proof.Value.lean ====
module

public import proofs.«01_k».proof.Proof.Host

@[expose] public section

set_option maxRecDepth 16384

noncomputable section

/-! # The kernel program's result array, as the closed form of attention

The regions' arrays and the host operations between them, followed from the argument arrays to the result. -/

namespace Cert.Attn

open Cert.KernelIdeal Cert.KernelIdeal.Gen
open Idealize.ShloMosaic Idealize.ShloMosaic.TcCoe

variable (m : (ℓ : Loc nD τ sig) → Buf (Elt Ideal) ℓ) (ρ : Dev nD → PrngReg) (c : Dev nD)

/-- The input of device `c` at launch. -/
abbrev argX : Vec Ideal S2x2048x1024 .f32 := m ((c.tc : Thread nD τ).loc main_arg0)
/-- The first projection's weight. -/
abbrev argW : Vec Ideal S3072x1024 .f32 := m ((c.tc : Thread nD τ).loc main_arg1)
/-- The first projection's bias. -/
abbrev argA : Vec Ideal S3072 .f32 := m ((c.tc : Thread nD τ).loc main_arg2)
/-- The last projection's weight. -/
abbrev argU : Vec Ideal S1024x1024 .f32 := m ((c.tc : Thread nD τ).loc main_arg3)
/-- The last projection's bias. -/
abbrev argG : Vec Ideal S1024 .f32 := m ((c.tc : Thread nD τ).loc main_arg4)

/-- After region 0 the projection's array holds the first projection of the arguments. -/
theorem proj_value (b : Fin 2) (s : Fin 2048) (j : Fin 3072) :
    W2 m ρ c (Proc.devRef .tc main_v2) (ix2 (row b s) j) = proj (argX m c) (argW m c) (argA m c) b s j := by
  refine (congrFun ((W2_arr m ρ c 3).trans (region0 (V1 m ρ) c)) (ix2 (row b s) j)).trans ?_
  refine congrArg₂ (· + ·) (Finset.sum_congr rfl fun k _ => congrArg₂ (· * ·) (rows_at (W0 m ρ c) b s k) ?_)
    (bias0_at (W0 m ρ c) j)
  exact congrFun (W1_args m ρ c main_arg1 (by decide)) (ix2 j k)

/-- After region 1 the heads' array holds the attention output of every head. -/
theorem context_value (b : Fin 2) (h : Fin 16) (i : Fin 2048) (d : Fin 64) :
    W4 m ρ c (Proc.devRef .tc main_v13) (ix4 b h i d) = context (argX m c) (argW m c) (argA m c) b h i d := by
  refine (congrFun ((W4_arr m ρ c 3).trans (region1 (V3 m ρ) c)) (ix4 b h i d)).trans ?_
  refine congrArg₂ average (funext fun j => congrArg₂ logit (funext fun e => ?_) (funext fun e => ?_)) (funext fun j => ?_)
  · exact (queries_at (W2 m ρ c) b h i e).trans (proj_value m ρ c b i _)
  · exact (keys_at (W2 m ρ c) b h j e).trans (proj_value m ρ c b j _)
  · exact (values_at (W2 m ρ c) b h j d).trans (proj_value m ρ c b j _)

/-- At the end of the program the result array holds the layer's output. -/
theorem kernel_value (b : Fin 2) (s : Fin 2048) (j : Fin 1024) :
    W7 m ρ c (Proc.devRef .tc main_v18) (ix3 b s j)
      = layer (argX m c) (argW m c) (argA m c) (argU m c) (argG m c) b s j := by
  refine (result_at (W6 m ρ c) b s j).trans ?_
  refine (congrFun ((W6_arr m ρ c 3).trans (region2 (V5 m ρ) c)) (ix2 (row b s) j)).trans ?_
  refine congrArg₂ (· + ·) (Finset.sum_congr rfl fun e _ => congrArg₂ (· * ·) ?_ ?_) ?_
  · exact (heads_at (W4 m ρ c) b s e).trans (context_value m ρ c b _ s _)
  · exact congrFun (W5_args m ρ c main_arg3 (by decide)) (ix2 j e)
  · exact (bias2_at (W4 m ρ c) j).trans (congrFun (W4_args m ρ c main_arg4 (by decide)) (ix1 j))

end Cert.Attn

end
-- ==== Proof.Reference.lean ====
module

public import proofs.«01_k».proof.Proof.Gen.ReferenceIdeal.Read
public import proofs.«01_k».proof.Proof.Payload
public import proofs.«01_k».proof.Proof.Spec

@[expose] public section

set_option maxRecDepth 16384

noncomputable section

/-! # The reference, stage by stage, as the closed forms of attention -/

namespace Cert.Attn.Reference

open Cert.ReferenceIdeal Cert.ReferenceIdeal.Gen Cert.ReferenceIdeal.Read
open Idealize.ShloMosaic

variable (x : Vec Ideal S2x2048x1024 .f32) (w : Vec Ideal S3072x1024 .f32) (a : Vec Ideal S3072 .f32)
  (u : Vec Ideal S1024x1024 .f32) (g : Vec Ideal S1024 .f32)

/-- One over the square root of the head size, as the reference computes it, is one eighth. -/
theorem scale_root : Ideal.div 1 (Ideal.sqrt (Ideal.ofBits .f32 0x42800000#32)) = ((1 / 8 : ℝ) : EReal) := by
  have h : Ideal.ofBits .f32 0x42800000#32 = ((64 : ℝ) : EReal) := by
    simp [Ideal.ofBits, Ideal.ieee, -EReal.coe_mul]; norm_num
  have r : Real.sqrt 64 = 8 := by rw [show (64 : ℝ) = 8 ^ 2 by norm_num]; exact Real.sqrt_sq (by norm_num)
  rw [h, Ideal.sqrt_coe, if_neg (by norm_num), r, Ideal.div_coe (by norm_num), one_mul]

/-- Its first projection. -/
theorem proj_at (b : Fin 2) (s : Fin 2048) (j : Fin 3072) : val_main_v4 (F := Ideal) x w a (ix3 b s j) = proj x w a b s j := by
  pointwise [val_main_v4, val_main_v3, val_main_v2, val_main_v1, val_main_v0]
  rfl

/-- Its scaled logits. -/
theorem logits_at (b : Fin 2) (h : Fin 16) (i j : Fin 2048) :
    val_main_v16 (F := Ideal) x w a (ix4 b h i j) = logits x w a b h i j := by
  unfold logits
  simp only [← proj_at]
  unfold val_main_v16 val_main_v14 val_main_v7 val_main_v6 val_main_v9 val_main_v8 val_main_v5
  generalize val_main_v4 (F := Ideal) x w a = y
  pointwise [val_main_v15, val_main_v13, val_main_v12, val_main_cst, val_main_cst_0]
  rw [scale_root]
  unfold logit
  refine congrArg (· * _) (Finset.sum_congr rfl fun d _ => congrArg₂ (· * ·) ?_ ?_) <;>
    exact congrArg y (congrArg (ix3 b _) (Fin.ext (by simp [col])))

/-- The row maximum the reference reduces to; -/
theorem max_at (b : Fin 2) (h : Fin 16) (i : Fin 2048) :
    val_main_v17 (F := Ideal) x w a (ix3 b h i) = top (logits x w a b h i) := by
  rw [show logits x w a b h i = fun j => val_main_v16 (F := Ideal) x w a (ix4 b h i j) from
    funext fun j => (logits_at x w a b h i j).symm]
  unfold val_main_v17
  generalize val_main_v16 (F := Ideal) x w a = y
  pointwise [val_main_cst_1]
  rw [bottom_const]; rfl

/-- the maximum is spread along its row -/
theorem spread_max (b : Fin 2) (h : Fin 16) (i j : Fin 2048) :
    val_main_v21 (F := Ideal) x w a (ix4 b h i j) = val_main_v19 (F := Ideal) x w a (ix3 b h i) := by
  unfold val_main_v21 val_main_v20
  generalize val_main_v19 (F := Ideal) x w a = y
  pointwise

/-- after it is compared once more with minus infinity, which changes nothing; -/
theorem guarded_max_at (b : Fin 2) (h : Fin 16) (i : Fin 2048) :
    val_main_v19 (F := Ideal) x w a (ix3 b h i) = top (logits x w a b h i) := by
  rw [val_main_v19_apply, val_main_v18_apply, val_main_cst_2_apply, max_at, Ideal.maximumf_def, Ideal.ofBits_def, bottom_const,
    max_eq_right bot_le]

/-- subtracting it from every logit and exponentiating gives the row's weights. -/
theorem weight_at (b : Fin 2) (h : Fin 16) (i j : Fin 2048) :
    val_main_v23 (F := Ideal) x w a (ix4 b h i j) = weight (logits x w a b h i) j := by
  rw [val_main_v23_apply, val_main_v22_apply, spread_max, guarded_max_at, logits_at]
  rfl

/-- The total each weight is divided by. -/
theorem total_at (b : Fin 2) (h : Fin 16) (i j : Fin 2048) :
    val_main_v26 (F := Ideal) x w a (ix4 b h i j) = total (logits x w a b h i) := by
  unfold total
  simp only [← weight_at]
  unfold val_main_v26 val_main_v25 val_main_v24
  generalize val_main_v23 (F := Ideal) x w a = y
  pointwise [val_main_cst_3]

/-- The heads' outputs, laid side by side. -/
theorem heads_at (b : Fin 2) (s : Fin 2048) (e : Fin 1024) :
    val_main_v30 (F := Ideal) x w a (ix3 b s e)
      = spread (logits x w a b (headOf e) s) fun j => proj x w a b j (col 2 (headOf e) (coordOf e)) := by
  have q (j : Fin 2048) : Ideal.div (weight (logits x w a b (headOf e) s) j) (total (logits x w a b (headOf e) s))
      = val_main_v27 (F := Ideal) x w a (ix4 b (headOf e) s j) := by
    rw [val_main_v27_apply, weight_at, total_at, Ideal.hostDivf_def]
  unfold spread
  simp only [q, ← proj_at]
  unfold val_main_v30 val_main_v29 val_main_v28 val_main_v11 val_main_v10 val_main_v5
  generalize val_main_v27 (F := Ideal) x w a = y
  generalize val_main_v4 (F := Ideal) x w a = z
  pointwise
  refine Finset.sum_congr rfl fun j _ => congrArg₂ (· * ·) (congrArg z (congrArg (ix3 b j) (Fin.ext ?_))) rfl
  simp [col, headOf, coordOf]

/-- Its result, from the heads' outputs. -/
theorem result_at (b : Fin 2) (s : Fin 2048) (j : Fin 1024) :
    val_main_v35 (F := Ideal) x w a u g (ix3 b s j)
      = (∑ e : Fin 1024, val_main_v30 (F := Ideal) x w a (ix3 b s e) * u (ix2 j e)) + g (ix1 j) := by
  unfold val_main_v35 val_main_v34 val_main_v33 val_main_v32 val_main_v31
  generalize val_main_v30 (F := Ideal) x w a = y
  pointwise

/-- Where the input and the queries' and keys' weights and biases are real, the reference's result is the layer's output with each head divided at
    the end, as the kernel divides it. -/
theorem result_layer (hx : ∀ i, IsReal (x i)) (hw : ∀ (j : Fin 3072) (k : Fin 1024), j.val < 2048 → IsReal (w (ix2 j k)))
    (ha : ∀ j : Fin 3072, j.val < 2048 → IsReal (a (ix1 j))) (b : Fin 2) (s : Fin 2048) (j : Fin 1024) :
    val_main_v35 (F := Ideal) x w a u g (ix3 b s j) = layer x w a u g b s j := by
  rw [result_at]
  refine congrArg (· + _) (Finset.sum_congr rfl fun e _ => congrArg (· * _) ?_)
  rw [heads_at]
  exact (average_eq_spread (by decide) (fun k => logits_isReal hx hw ha b _ s k) _).symm

end Cert.Attn.Reference

end
-- ==== Proof.Finite.lean ====
module

public import proofs.«01_k».proof.Defs
public import proofs.«01_k».proof.Proof.Softmax
public import Idealize.ShloMosaic.Lib.ReduceAll
public import Idealize.ShloMosaic.Lib.Pointwise

@[expose] public section

set_option maxRecDepth 16384

noncomputable section

/-! # What the precondition says: the entries it names are real numbers -/

namespace Cert.Pre_finite_query_key

open Idealize.ShloMosaic

/-- The function's shapes fit its operations. -/
theorem facts : Facts where
  bcast_S_S2x2048x1024 := by decide
  reducesTo_S2x2048x1024_S_d0_1_2 := by decide
  h_S_ := by decide
  slices_S3072x1024_S2048x1024_0_0 := by decide
  bcast_S_S2048x1024 := by decide
  reducesTo_S2048x1024_S_d0_1 := by decide
  slices_S3072_S2048_0 := by decide
  bcast_S_S2048 := by decide
  reducesTo_S2048_S_d0 := by decide

end Cert.Pre_finite_query_key

namespace Cert.Attn

open Idealize.ShloMosaic Cert.Pre_finite_query_key

/-- An extended real whose absolute value is below plus infinity is a real number. -/
theorem IsReal.of_abs_lt {e : EReal} (h : Ideal.cmp .olt (max e (-e)) (Ideal.ofBits .f32 0x7F800000#32) = 1#1) : IsReal e := by
  have t : Ideal.ofBits .f32 0x7F800000#32 = ⊤ := by simp [Ideal.ofBits, Ideal.ieee]
  rw [t] at h
  have lt : max e (-e) < ⊤ := by
    by_contra hn
    simp [Ideal.cmp, hn] at h
  obtain ⟨h1, h2⟩ := max_lt_iff.1 lt
  exact .of_ne h1.ne fun hb => by simp [hb] at h2

instance : Subsingleton S_.Idx := ⟨fun _ _ => funext fun a => a.elim0⟩

/-- Where the precondition is all ones, every entry of the input, and every entry of the first weight and bias that belongs
    to a query or key column, is a real number. -/
theorem real_of_pre [Facts] {x : FVec Ideal S2x2048x1024 .f32} {w : FVec Ideal S3072x1024 .f32} {a : FVec Ideal S3072 .f32}
    {u : FVec Ideal S1024x1024 .f32} {g : FVec Ideal S1024 .f32} (h : fn (F := Ideal) x w a u g = fun _ => 1#1) :
    (∀ i, IsReal (x i)) ∧ (∀ (j : Fin 3072) (k : Fin 1024), j.val < 2048 → IsReal (w (ix2 j k)))
      ∧ ∀ j : Fin 3072, j.val < 2048 → IsReal (a (ix1 j)) := by
  have e := congrFun h (Shape.Idx.first (by decide))
  dsimp only [fn] at e
  obtain ⟨e1, e3⟩ := IntOp.andi_eq_one.1 e
  obtain ⟨e1, e2⟩ := IntOp.andi_eq_one.1 e1
  refine ⟨fun i => .of_abs_lt (Host.reduce_andi_all _ _ _ _ _ e1 i), fun j k hj => .of_abs_lt ?_, fun j hj => .of_abs_lt ?_⟩
  · have r := Host.reduce_andi_all _ _ _ _ _ e2 (ix2 ⟨j.val, hj⟩ k)
    pointwise at r
    exact r
  · have r := Host.reduce_andi_all _ _ _ _ _ e3 (ix1 ⟨j.val, hj⟩)
    pointwise at r
    exact r

end Cert.Attn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Run
public import proofs.«01_k».proof.Proof.Value
public import proofs.«01_k».proof.Proof.Reference
public import proofs.«01_k».proof.Proof.Finite
public import Idealize.ShloMosaic.Adequacy
public import Idealize.ShloMosaic.Init

@[expose] public section

noncomputable section

namespace Cert.Proof

open Idealize.ShloMosaic Idealize.SL.Sem Cert.Kernel

/-- The reference runs, leaves its arguments as they were, and ends with every counter at zero: it is a straight line of host
    operations that declares no semaphore. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Where the precondition holds, the reference's result on equal arguments is what the kernel program's result array ends
    with. -/
theorem results_agree (m : (ℓ : Loc Cert.KernelIdeal.nD Cert.KernelIdeal.τ Cert.KernelIdeal.sig) → Buf (Elt Ideal) ℓ)
    (ρ : Dev Cert.KernelIdeal.nD → PrngReg)
    (hm : Cert.Pre_KernelIdeal_finite_query_key (hPre_finite_query_key := Cert.Pre_finite_query_key.facts) m) (c : Dev Cert.KernelIdeal.nD) :
    Cert.ReferenceIdeal.Read.val_main_v35 (F := Ideal) (Cert.Attn.argX m c) (Cert.Attn.argW m c) (Cert.Attn.argA m c)
        (Cert.Attn.argU m c) (Cert.Attn.argG m c)
      = Cert.KernelIdeal.Gen.W7 m ρ c (Proc.devRef .tc Cert.KernelIdeal.main_v18) := by
  have : Cert.Pre_finite_query_key.Facts := Cert.Pre_finite_query_key.facts
  obtain ⟨hx, hw, ha⟩ := Cert.Attn.real_of_pre (hm c)
  funext y
  idx_vars y
  exact (Cert.Attn.Reference.result_layer _ _ _ _ _ hx hw ha y0 y1 y2).trans (Cert.Attn.kernel_value m ρ c y0 y1 y2).symm

/-- THE VALUE CLAIM: where the input and the queries' and keys' weights and biases are finite, the kernel program and the
    reference end with equal results. -/
theorem algebraic : Cert.algebraic_KernelIdeal_ReferenceIdeal_pre_finite_query_key (hKernelIdeal := Cert.KernelIdeal.Gen.facts)
    (hReferenceIdeal := Cert.ReferenceIdeal.Gen.facts) (hPre_finite_query_key := Cert.Pre_finite_query_key.facts) :=
  fun m ρ m' ρ' hm hargs => ⟨fun c => Cert.KernelIdeal.Gen.W7 m ρ c (Proc.devRef .tc Cert.KernelIdeal.main_v18),
    Cert.Attn.kernel_run m ρ,
    (θ_run Cert.ReferenceIdeal.defs _ _).mono (fun r h c => ⟨(h c).1.trans (by
        obtain ⟨h0, h1, h2, h3, h4⟩ := hargs c
        rw [Cert.ReferenceIdeal.Read.val_main_v35_eq, h0, h1, h2, h3, h4]
        exact results_agree m ρ hm c), (h c).2⟩)
      (Cert.ReferenceIdeal.Value.run (F := Ideal) m' ρ')⟩

/-- Everything claimed: the frames of the three programs, that the ideal program is the kernel's own text, and the value
    claim. -/
theorem claim : Cert.Claim :=
  ⟨Cert.Kernel.Gen.facts, Cert.KernelIdeal.Gen.facts, Cert.ReferenceIdeal.Gen.facts, Cert.Pre_finite_query_key.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial, trivial, algebraic⟩

end Cert.Proof

end
